-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "third" .f32 0x3EAAAAAB#32 ((3⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x4x128 : Shape := ⟨3, ![50000, 4, 128]⟩
abbrev S50000x4x4 : Shape := ⟨3, ![50000, 4, 4]⟩
abbrev S50000x4x64 : Shape := ⟨3, ![50000, 4, 64]⟩
abbrev S1 : Shape := ⟨1, ![1]⟩
abbrev S128x64 : Shape := ⟨2, ![128, 64]⟩
abbrev S64 : Shape := ⟨1, ![64]⟩
abbrev S1x64x64 : Shape := ⟨3, ![1, 64, 64]⟩
abbrev S16x1024 : Shape := ⟨2, ![16, 1024]⟩
abbrev S256x64 : Shape := ⟨2, ![256, 64]⟩
abbrev S200000x128 : Shape := ⟨2, ![200000, 128]⟩
abbrev S50000x16 : Shape := ⟨2, ![50000, 16]⟩
abbrev S50000x256 : Shape := ⟨2, ![50000, 256]⟩
abbrev S64x64 : Shape := ⟨2, ![64, 64]⟩
abbrev S1x64 : Shape := ⟨2, ![1, 64]⟩
abbrev S1x1 : Shape := ⟨2, ![1, 1]⟩
abbrev S25x2x2000 : Shape := ⟨3, ![25, 2, 2000]⟩
abbrev S8000x128 : Shape := ⟨2, ![8000, 128]⟩
abbrev S2000x16 : Shape := ⟨2, ![2000, 16]⟩
abbrev S2000x256 : Shape := ⟨2, ![2000, 256]⟩
abbrev S32x128 : Shape := ⟨2, ![32, 128]⟩
abbrev S8x16 : Shape := ⟨2, ![8, 16]⟩
abbrev S8x256 : Shape := ⟨2, ![8, 256]⟩
abbrev S1x2x2000 : Shape := ⟨3, ![1, 2, 2000]⟩
abbrev S8000x64 : Shape := ⟨2, ![8000, 64]⟩
abbrev S2000x4x64 : Shape := ⟨3, ![2000, 4, 64]⟩
abbrev S2000x1x64 : Shape := ⟨3, ![2000, 1, 64]⟩
abbrev S2000x64 : Shape := ⟨2, ![2000, 64]⟩
abbrev S2000x1024 : Shape := ⟨2, ![2000, 1024]⟩
abbrev S32x64 : Shape := ⟨2, ![32, 64]⟩
abbrev S1x2000 : Shape := ⟨2, ![1, 2000]⟩
abbrev S1x1x2000 : Shape := ⟨3, ![1, 1, 2000]⟩
abbrev S2x25x2000 : Shape := ⟨3, ![2, 25, 2000]⟩
abbrev S100000x1 : Shape := ⟨2, ![100000, 1]⟩

abbrev nBuf : Space → Nat
  | .hbm => 23
  | .vmem => 20
  | .smem => 0
  | _ => 0

abbrev bufTy : (tb : Table) → Fin (tcTables nBuf tb) → BufTy
  | .hbm, ⟨0, _⟩ => ⟨S50000x4x128, .f32⟩
  | .hbm, ⟨1, _⟩ => ⟨S50000x4x4, .f32⟩
  | .hbm, ⟨2, _⟩ => ⟨S50000x4x64, .f32⟩
  | .hbm, ⟨3, _⟩ => ⟨S50000x4x4, .f32⟩
  | .hbm, ⟨4, _⟩ => ⟨S1, .f32⟩
  | .hbm, ⟨5, _⟩ => ⟨S128x64, .f32⟩
  | .hbm, ⟨6, _⟩ => ⟨S64, .f32⟩
  | .hbm, ⟨7, _⟩ => ⟨S1, .f32⟩
  | .hbm, ⟨8, _⟩ => ⟨S1x64x64, .f32⟩
  | .hbm, ⟨9, _⟩ => ⟨S1, .f32⟩
  | .hbm, ⟨10, _⟩ => ⟨S16x1024, .f32⟩
  | .hbm, ⟨11, _⟩ => ⟨S256x64, .f32⟩
  | .hbm, ⟨12, _⟩ => ⟨S200000x128, .f32⟩
  | .hbm, ⟨13, _⟩ => ⟨S50000x16, .f32⟩
  | .hbm, ⟨14, _⟩ => ⟨S50000x256, .f32⟩
  | .hbm, ⟨15, _⟩ => ⟨S64x64, .f32⟩
  | .hbm, ⟨16, _⟩ => ⟨S1x64, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S25x2x2000, .f32⟩
  | .hbm, ⟨21, _⟩ => ⟨S2x25x2000, .f32⟩
  | .hbm, ⟨22, _⟩ => ⟨S100000x1, .f32⟩
  | .local _ .vmem, ⟨0, _⟩ => ⟨S8000x128, .f32⟩
  | .local _ .vmem, ⟨1, _⟩ => ⟨S8000x128, .f32⟩
  | .local _ .vmem, ⟨2, _⟩ => ⟨S2000x16, .f32⟩
  | .local _ .vmem, ⟨3, _⟩ => ⟨S2000x16, .f32⟩
  | .local _ .vmem, ⟨4, _⟩ => ⟨S2000x256, .f32⟩
  | .local _ .vmem, ⟨5, _⟩ => ⟨S2000x256, .f32⟩
  | .local _ .vmem, ⟨6, _⟩ => ⟨S32x128, .f32⟩
  | .local _ .vmem, ⟨7, _⟩ => ⟨S8x16, .f32⟩
  | .local _ .vmem, ⟨8, _⟩ => ⟨S8x256, .f32⟩
  | .local _ .vmem, ⟨9, _⟩ => ⟨S128x64, .f32⟩
  | .local _ .vmem, ⟨10, _⟩ => ⟨S16x1024, .f32⟩
  | .local _ .vmem, ⟨11, _⟩ => ⟨S256x64, .f32⟩
  | .local _ .vmem, ⟨12, _⟩ => ⟨S64x64, .f32⟩
  | .local _ .vmem, ⟨13, _⟩ => ⟨S1x64, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x2x2000, .f32⟩
  | .local _ .vmem, ⟨18, _⟩ => ⟨S1x2x2000, .f32⟩
  | .local _ .vmem, ⟨19, _⟩ => ⟨S1x64, .f32⟩
  | _, _ => ⟨S50000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c24_i32 : BitVec 32 := 24#32
  let v0 : BitVec 1 := Scalar.cmpi .eq arg0 c24_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c24_i32 : BitVec 32 := 24#32
  let v0 : BitVec 1 := Scalar.cmpi .eq arg0 c24_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c24_i32 : BitVec 32 := 24#32
  let v0 : BitVec 1 := Scalar.cmpi .eq arg0 c24_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c249_i32 : BitVec 32 := 249#32
  let c0_i32 : BitVec 32 := 0#32
  let c0_i32_0 : BitVec 32 := 0#32
  ![c249_i32.toNat, c0_i32.toNat]

def cc0_transform_4 (i : grid0.Coords) : Fin 2 → Nat :=
  let arg0 : BitVec 32 := BitVec.ofNat 32 (i 0).val
  let c249_i32 : BitVec 32 := 249#32
  let c0_i32 : BitVec 32 := 0#32
  let c0_i32_0 : BitVec 32 := 0#32
  ![c249_i32.toNat, c0_i32.toNat]

def cc0_transform_5 (i : grid0.Coords) : Fin 2 → Nat :=
  let arg0 : BitVec 32 := BitVec.ofNat 32 (i 0).val
  let c249_i32 : BitVec 32 := 249#32
  let c0_i32 : BitVec 32 := 0#32
  let c0_i32_0 : BitVec 32 := 0#32
  ![c249_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c24_i32 : BitVec 32 := 24#32
  let v0 : BitVec 1 := Scalar.cmpi .eq arg0 c24_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2x2000 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "third" => some ((3⁻¹ : ℝ) : EReal)
  | _ => none
-- ==== ReferenceIdeal.lean ====
abbrev S50000x4x128 : Shape := ⟨3, ![50000, 4, 128]⟩
abbrev S50000x4x4 : Shape := ⟨3, ![50000, 4, 4]⟩
abbrev S50000x4x64 : Shape := ⟨3, ![50000, 4, 64]⟩
abbrev S1 : Shape := ⟨1, ![1]⟩
abbrev S128x64 : Shape := ⟨2, ![128, 64]⟩
abbrev S64 : Shape := ⟨1, ![64]⟩
abbrev S1x64x64 : Shape := ⟨3, ![1, 64, 64]⟩
abbrev S1x1x64 : Shape := ⟨3, ![1, 1, 64]⟩
abbrev S_ : Shape := ⟨0, ![]⟩
abbrev S50000x3x64 : Shape := ⟨3, ![50000, 3, 64]⟩
abbrev S50000x64 : Shape := ⟨2, ![50000, 64]⟩
abbrev S50000x1x64 : Shape := ⟨3, ![50000, 1, 64]⟩
abbrev S1x1 : Shape := ⟨2, ![1, 1]⟩
abbrev S1x64x50000 : Shape := ⟨3, ![1, 64, 50000]⟩
abbrev S50000x1 : Shape := ⟨2, ![50000, 1]⟩
abbrev S1x64 : Shape := ⟨2, ![1, 64]⟩
abbrev S49999x64 : Shape := ⟨2, ![49999, 64]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x4x128, .f32⟩
  | .hbm, ⟨1, _⟩ => ⟨S50000x4x4, .f32⟩
  | .hbm, ⟨2, _⟩ => ⟨S50000x4x64, .f32⟩
  | .hbm, ⟨3, _⟩ => ⟨S50000x4x4, .f32⟩
  | .hbm, ⟨4, _⟩ => ⟨S1, .f32⟩
  | .hbm, ⟨5, _⟩ => ⟨S128x64, .f32⟩
  | .hbm, ⟨6, _⟩ => ⟨S64, .f32⟩
  | .hbm, ⟨7, _⟩ => ⟨S1, .f32⟩
  | .hbm, ⟨8, _⟩ => ⟨S1x64x64, .f32⟩
  | .hbm, ⟨9, _⟩ => ⟨S1, .f32⟩
  | .hbm, ⟨10, _⟩ => ⟨S50000x4x64, .f32⟩
  | .hbm, ⟨11, _⟩ => ⟨S50000x4x64, .f32⟩
  | .hbm, ⟨12, _⟩ => ⟨S1x1x64, .f32⟩
  | .hbm, ⟨13, _⟩ => ⟨S50000x4x64, .f32⟩
  | .hbm, ⟨14, _⟩ => ⟨S50000x4x64, .f32⟩
  | .hbm, ⟨15, _⟩ => ⟨S_, .f32⟩
  | .hbm, ⟨16, _⟩ => ⟨S50000x4x64, .f32⟩
  | .hbm, ⟨17, _⟩ => ⟨S50000x4x64, .i1⟩
  | .hbm, ⟨18, _⟩ => ⟨S_, .f32⟩
  | .hbm, ⟨19, _⟩ => ⟨S50000x4x64, .f32⟩
  | .hbm, ⟨20, _⟩ => ⟨S50000x4x64, .f32⟩
  | .hbm, ⟨21, _⟩ => ⟨S50000x4x64, .f32⟩
  | .hbm, ⟨22, _⟩ => ⟨S50000x3x64, .f32⟩
  | .hbm, ⟨23, _⟩ => ⟨S_, .f32⟩
  | .hbm, ⟨24, _⟩ => ⟨S50000x64, .f32⟩
  | .hbm, ⟨25, _⟩ => ⟨S_, .f32⟩
  | .hbm, ⟨26, _⟩ => ⟨S50000x64, .f32⟩
  | .hbm, ⟨27, _⟩ => ⟨S50000x64, .f32⟩
  | .hbm, ⟨28, _⟩ => ⟨S50000x1x64, .f32⟩
  | .hbm, ⟨29, _⟩ => ⟨S50000x64, .f32⟩
  | .hbm, ⟨30, _⟩ => ⟨S50000x3x64, .f32⟩
  | .hbm, ⟨31, _⟩ => ⟨S_, .f32⟩
  | .hbm, ⟨32, _⟩ => ⟨S50000x64, .f32⟩
  | .hbm, ⟨33, _⟩ => ⟨S_, .f32⟩
  | .hbm, ⟨34, _⟩ => ⟨S50000x64, .f32⟩
  | .hbm, ⟨35, _⟩ => ⟨S50000x64, .f32⟩
  | .hbm, ⟨36, _⟩ => ⟨S1x1, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S1x64x50000, .f32⟩
  | .hbm, ⟨47, _⟩ => ⟨S50000x1, .f32⟩
  | .hbm, ⟨48, _⟩ => ⟨S1x1, .f32⟩
  | .hbm, ⟨49, _⟩ => ⟨S50000x1, .f32⟩
  | .hbm, ⟨50, _⟩ => ⟨S50000x1, .f32⟩
  | .hbm, ⟨51, _⟩ => ⟨S1x64, .f32⟩
  | .hbm, ⟨52, _⟩ => ⟨S49999x64, .f32⟩
  | .hbm, ⟨53, _⟩ => ⟨S50000x64, .f32⟩
  | .hbm, ⟨54, _⟩ => ⟨S1x64, .f32⟩
  | .hbm, ⟨55, _⟩ => ⟨S49999x64, .f32⟩
  | .hbm, ⟨56, _⟩ => ⟨S50000x64, .f32⟩
  | .hbm, ⟨57, _⟩ => ⟨S1x1, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S1, .f32⟩
  | .hbm, ⟨62, _⟩ => ⟨S1, .f32⟩
  | .hbm, ⟨63, _⟩ => ⟨S1x1, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S1x64x50000, .f32⟩
  | .hbm, ⟨68, _⟩ => ⟨S50000x1, .f32⟩
  | .hbm, ⟨69, _⟩ => ⟨S1x1, .f32⟩
  | .hbm, ⟨70, _⟩ => ⟨S50000x1, .f32⟩
  | .hbm, ⟨71, _⟩ => ⟨S50000x1, .f32⟩
  | .hbm, ⟨72, _⟩ => ⟨S100000x1, .f32⟩
  | _, _ => ⟨S50000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.Score.lean ====
/-
  The mathematics of the problem, one batch row at a time, over the extended reals — no program in sight.

  A batch row carries its four nodes' features `X n k`, its adjacency `A r j` and the raw negative sequence `N n h`.
  The projected features are `X · W`; node `r` after the graph convolution is `prelu (A r · (X · W) + b)`; a row's
  context mixes the mean of its first three nodes with the mean of its first three negative rows; its query is its
  fourth node taken through the bilinear matrix; the score of a query against a context is their dot product plus a
  bias. The kernel pairs each query with its own context (first half of the result) and with the context of the row
  before it (second half; row 0 takes row 49998's).
-/
module

public import Idealize.ShloMosaic.PureOps.Ideal
public import Idealize.ShloMosaic.Lib.Pointwise.Sums

@[expose] public section

noncomputable section

namespace Cert.Score

open Idealize.ShloMosaic

/-- The parameters shared by every row: the projection `W`, the convolution's bias `b`, the PReLU slope `a`, the
    mixing weight `al`, the bilinear matrix `V` and its bias `d`. -/
@[ext] structure Params where
  W : Fin 128 → Fin 64 → EReal
  b : Fin 64 → EReal
  a : EReal
  al : EReal
  V : Fin 64 → Fin 64 → EReal
  d : EReal

/-- One batch row: node features, adjacency, negative sequence. -/
@[ext] structure Row where
  X : Fin 4 → Fin 128 → EReal
  A : Fin 4 → Fin 4 → EReal
  N : Fin 4 → Fin 64 → EReal

/-- The constant one third. -/
def third : EReal := ((3⁻¹ : ℝ) : EReal)

/-- PReLU with slope `a`. -/
def prelu (a o : EReal) : EReal := if 0 ≤ o then o else a * o

/-- The projected feature `h` of node `n`. -/
def feat (P : Params) (R : Row) (n : Fin 4) (h : Fin 64) : EReal := ∑ k, R.X n k * P.W k h

/-- Feature `h` of node `r` after the graph convolution and the PReLU. -/
def node (P : Params) (R : Row) (r : Fin 4) (h : Fin 64) : EReal :=
  prelu P.a ((∑ j, R.A r j * feat P R j h) + P.b h)

/-- The row's context: `al` of its mean over the first three nodes and `1 - al` of its mean negative row. -/
def ctx (P : Params) (R : Row) (h : Fin 64) : EReal :=
  P.al * ((node P R 0 h + node P R 1 h + node P R 2 h) * third)
    + (1 - P.al) * ((R.N 0 h + R.N 1 h + R.N 2 h) * third)

/-- The row's query: its fourth node through the bilinear matrix. -/
def query (P : Params) (R : Row) (h : Fin 64) : EReal := ∑ i, node P R 3 i * P.V i h

/-- The score of a query `t` against a context `g`. -/
def score (P : Params) (t g : Fin 64 → EReal) : EReal := (∑ h, t h * g h) + P.d

/-- The row whose context row `b` is paired with in the second half: the one before, and row 49998 for row 0. -/
def prev (b : Fin 50000) : Fin 50000 := if h : b.val = 0 then ⟨49998, by omega⟩ else ⟨b.val - 1, by omega⟩

/-- The whole result: at row `i` below 50000 row `i`'s query against its own context, at row `50000 + i` the same query
    against the context of the row before. -/
def result (P : Params) (R : Fin 50000 → Row) (i : Fin 100000) : EReal :=
  if h : i.val < 50000 then score P (query P (R ⟨i.val, h⟩)) (ctx P (R ⟨i.val, h⟩))
  else score P (query P (R ⟨i.val - 50000, by omega⟩)) (ctx P (R (prev ⟨i.val - 50000, by omega⟩)))

/-- A sum over 256 lanes, lane `64 j + h'` carrying `a j · f j h'`, masked to the lanes with `h' = h`, is the sum of
    `a j · f j h` over the four `j`. -/
theorem sum_masked (a : Fin 4 → EReal) (f : Fin 4 → Fin 64 → EReal) (h : Fin 64) (g : Fin 256 → EReal)
    (hg : ∀ (j : Fin 4) (h' : Fin 64), g ⟨j.val * 64 + h'.val, by omega⟩ = a j * f j h' * (if h' = h then 1 else 0)) :
    ∑ l, g l = ∑ j, a j * f j h := by
  rw [Fin.sum_univ_tiles 4 64 rfl]
  refine Finset.sum_congr rfl fun j _ => ?_
  simp only [hg, mul_ite, mul_one, mul_zero, Finset.sum_ite_eq', Finset.mem_univ, if_true]

/-- A sum over 16 entries masked to entry `c` is that entry. -/
theorem sum_pick (f : Fin 16 → EReal) (c : Fin 16) : ∑ k, f k * (if k = c then 1 else 0) = f c := by
  simp only [mul_ite, mul_one, mul_zero, Finset.sum_ite_eq', Finset.mem_univ, if_true]

end Cert.Score

end
-- ==== Proof.Inputs.lean ====
/-
  The argument arrays of the problem as the parameters and the batch rows of Score.lean.
-/
module

public import proofs.«01_k».proof.Proof.Score
public import Idealize.ShloMosaic.Lib.Pointwise

@[expose] public section

noncomputable section

namespace Cert.Score

open Idealize.ShloMosaic

/-- The parameters, from the argument arrays that hold them. -/
def paramsOf (al : FVec Ideal (⟨1, ![1]⟩ : Shape) .f32) (w : FVec Ideal (⟨2, ![128, 64]⟩ : Shape) .f32)
    (b : FVec Ideal (⟨1, ![64]⟩ : Shape) .f32) (a : FVec Ideal (⟨1, ![1]⟩ : Shape) .f32)
    (V : FVec Ideal (⟨3, ![1, 64, 64]⟩ : Shape) .f32) (d : FVec Ideal (⟨1, ![1]⟩ : Shape) .f32) : Params where
  W k h := w (ix2 k h)
  b h := b (ix1 h)
  a := a (ix1 0)
  al := al (ix1 0)
  V i h := V (ix3 0 i h)
  d := d (ix1 0)

/-- Batch row `p`, from the three batched argument arrays. -/
def rowOf (x : FVec Ideal (⟨3, ![50000, 4, 128]⟩ : Shape) .f32) (u : FVec Ideal (⟨3, ![50000, 4, 4]⟩ : Shape) .f32)
    (g : FVec Ideal (⟨3, ![50000, 4, 64]⟩ : Shape) .f32) (p : Fin 50000) : Row where
  X n k := x (ix3 p n k)
  A r j := u (ix3 p r j)
  N n h := g (ix3 p n h)

end Cert.Score
-- ==== Proof.Body.lean ====
/-
  The kernel body's arithmetic, read at an index over the extended reals: on a block of 2000 batch rows whose one-hot
  tables `q` (16 × 1024) and `f` (256 × 64) hold what their names say, the vectors the body computes are, row by row,
  the contexts, queries and scores of Score.lean; and the single row the first grid point computes from the small
  boundary windows is that row's context.
-/
module

public import proofs.«01_k».proof.Proof.Score
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Body

open Cert.KernelIdeal Cert.KernelIdeal.Gen Idealize.ShloMosaic Cert.Score

/-- The parameters as the body's windows hold them. -/
def params (w : Vec Ideal S128x64 .f32) (b : Vec Ideal S1x64 .f32) (a al : Vec Ideal S1x1 .f32)
    (V : Vec Ideal S64x64 .f32) (d : Vec Ideal S1x1 .f32) : Params where
  W k h := w (ix2 k h)
  b h := b (ix2 0 h)
  a := a (ix2 0 0)
  al := al (ix2 0 0)
  V i h := V (ix2 i h)
  d := d (ix2 0 0)

/-- Batch row `p` of a block of 2000: its four nodes are the rows `4 p + n` of the features, its adjacency and its
    negative sequence are the block's row `p`, flattened. -/
def blockRow (x : Vec Ideal S8000x128 .f32) (u : Vec Ideal S2000x16 .f32) (g : Vec Ideal S2000x256 .f32)
    (p : Fin 2000) : Row where
  X n k := x (ix2 ⟨p.val * 4 + n.val, by omega⟩ k)
  A r j := u (ix2 p ⟨r.val * 4 + j.val, by omega⟩)
  N n h := g (ix2 p ⟨n.val * 64 + h.val, by omega⟩)

/-- The one batch row read off the boundary windows: their last one (row 7 of 8). -/
def haloRow (x : Vec Ideal S32x128 .f32) (u : Vec Ideal S8x16 .f32) (g : Vec Ideal S8x256 .f32) : Row where
  X n k := x (ix2 ⟨28 + n.val, by omega⟩ k)
  A r j := u (ix2 7 ⟨r.val * 4 + j.val, by omega⟩)
  N n h := g (ix2 7 ⟨n.val * 64 + h.val, by omega⟩)

/-- The table that copies entry `k` of a row of 16 to the lanes `64 k … 64 k + 63`. -/
def Spreads (q : Vec Ideal S16x1024 .f32) : Prop := ∀ (k : Fin 16) (l : Fin 1024), q (ix2 k l) = if k.val = l.val / 64 then 1 else 0

/-- The table that adds up the lanes `h`, `64 + h`, `128 + h`, `192 + h` of a row of 256. -/
def Folds (f : Vec Ideal S256x64 .f32) : Prop := ∀ (l : Fin 256) (h : Fin 64), f (ix2 l h) = if l.val % 64 = h.val then 1 else 0

/-- Membership of the four concatenated feature vectors: lane `64 j + h` of row `p` is feature `h` of node `j`. -/
theorem feat_apply (x : Vec Ideal S8000x128 .f32) (w : Vec Ideal S128x64 .f32) (p : Fin 2000) (j : Fin 4) (h : Fin 64) :
    k0_pay14 (F := Ideal) x w (ix2 p ⟨j.val * 64 + h.val, by omega⟩)
      = ∑ k : Fin 128, x (ix2 ⟨p.val * 4 + j.val, by omega⟩ k) * w (ix2 k h) := by
  have hh : h.val < 64 := h.isLt
  fin_cases j
  all_goals pointwise [k0_pay14]
  · rw [dif_neg (by omega), dif_neg (by omega), dif_pos (by omega)]
    simp only [show 128 + h.val - 64 - 64 = h.val by omega]
  · rw [dif_neg (by omega), dif_neg (by omega), dif_neg (by omega)]
    simp only [show 192 + h.val - 64 - 64 - 64 = h.val by omega]

/-- The spread adjacency: lane `l` of row `p` is the row's entry `l / 64`. -/
theorem spread_apply (u : Vec Ideal S2000x16 .f32) (q : Vec Ideal S16x1024 .f32) (hq : Spreads q) (p : Fin 2000)
    (l : Fin 1024) : k0_pay15 (F := Ideal) u q (ix2 p l) = u (ix2 p ⟨l.val / 64, by omega⟩) := by
  pointwise [k0_pay15]
  rw [← sum_pick (fun k => u (ix2 p k)) ⟨l.val / 64, by omega⟩]
  refine Finset.sum_congr rfl fun k _ => ?_
  rw [hq]
  exact congrArg _ (if_congr (by simp [Fin.ext_iff]) rfl rfl)

/-- The named constant is one third. -/
theorem third_eq : Named.named (F := Ideal) (φ := .f32) κ "third" 0x3EAAAAAB#32 = third :=
  IdealRules.named_const.ideal_named_scalar _ _ _ _ rfl

/-- A select on "this row's number is the zero word" is the `if` on the row's number being 0. -/
theorem select_row (p : Fin 2000) (A B : EReal) :
    Scalar.select (IntOp.cmpi CmpIPredicate.eq (BitVec.ofNat 32 p.val) 0#32) A B = if p.val = 0 then A else B := by
  have hp : p.val < 2000 := p.isLt
  rw [show (0#32) = BitVec.ofNat 32 0 from rfl, WordCmp.cmpi_eq_ofNat (by omega) (by omega)]
  by_cases h : p.val = 0
  · simp [h, Scalar.select]
  · simp [h, Scalar.select]

section Block

variable (x : Vec Ideal S8000x128 .f32) (u : Vec Ideal S2000x16 .f32) (g : Vec Ideal S2000x256 .f32)
  (w : Vec Ideal S128x64 .f32) (b : Vec Ideal S1x64 .f32) (a al : Vec Ideal S1x1 .f32)
  (V : Vec Ideal S64x64 .f32) (d : Vec Ideal S1x1 .f32) (q : Vec Ideal S16x1024 .f32) (f : Vec Ideal S256x64 .f32)
  (hq : Spreads q) (hf : Folds f)

include hq hf

/-- The masked product of the lanes from `o = 256 r` on, added up by the folding table, is the graph convolution of
    node `r`. -/
theorem conv_apply {o : ℕ} (r : Fin 4) (ho : o = r.val * 256) (p : Fin 2000) (h : Fin 64)
    (hl : ∀ l : Fin 256, o + l.val < 1024) :
    ∑ l : Fin 256, k0_pay15 (F := Ideal) u q (ix2 p ⟨o + l.val, hl l⟩) * k0_pay14 (F := Ideal) x w (ix2 p l) * f (ix2 l h)
      = ∑ j, (blockRow x u g p).A r j * feat (params w b a al V d) (blockRow x u g p) j h := by
  refine sum_masked _ _ h _ fun j h' => ?_
  subst ho
  rw [feat_apply, spread_apply u q hq, hf]
  congr 1
  · congr 1
    simp only [blockRow]
    congr 2
    apply Fin.ext
    show (r.val * 256 + (j.val * 64 + h'.val)) / 64 = r.val * 4 + j.val
    omega
  · refine if_congr ?_ rfl rfl
    rw [Fin.ext_iff]
    show (j.val * 64 + h'.val) % 64 = h.val ↔ _
    omega

/-- Node 0 of every row of the block. -/
theorem node0_apply (p : Fin 2000) (h : Fin 64) :
    k0_pay16 (F := Ideal) a b x w u q f (ix2 p h) = node (params w b a al V d) (blockRow x u g p) 0 h := by
  have h0 := conv_apply x u g w b a al V d q f hq hf (o := 0) 0 rfl p h (fun l => by omega)
  simp only [zero_add] at h0
  pointwise [k0_pay16, k0_pay10, k0_pay13, h0]
  rfl

/-- Node 3 of every row of the block. -/
theorem node3_apply (p : Fin 2000) (h : Fin 64) :
    k0_pay17 (F := Ideal) (k0_pay10 a) (k0_pay13 b) (k0_pay14 x w) (k0_pay15 u q) f (ix2 p h)
      = node (params w b a al V d) (blockRow x u g p) 3 h := by
  have h3 := conv_apply x u g w b a al V d q f hq hf (o := 768) 3 rfl p h (fun l => by omega)
  pointwise [k0_pay17, k0_pay10, k0_pay13, h3]
  rfl

/-- The block's contexts as the body computes them. -/
abbrev ctxVec : FVec Ideal S2000x64 .f32 :=
  k0_pay18 (F := Ideal) (k0_pay10 a) (k0_pay11 al) (k0_pay13 b) (k0_pay14 x w) (k0_pay15 u q) f (k0_pay16 a b x w u q f) g

/-- They are the rows' contexts. -/
theorem ctx_apply (p : Fin 2000) (h : Fin 64) :
    ctxVec x u g w b a al q f (ix2 p h) = ctx (params w b a al V d) (blockRow x u g p) h := by
  have h1 := conv_apply x u g w b a al V d q f hq hf (o := 256) 1 rfl p h (fun l => by omega)
  have h2 := conv_apply x u g w b a al V d q f hq hf (o := 512) 2 rfl p h (fun l => by omega)
  unfold ctxVec
  pointwise [k0_pay18, node0_apply x u g w b a al V d q f hq hf, h1, h2, third_eq, k0_pay10, k0_pay11, k0_pay13]
  have e0 : (blockRow x u g p).N 0 h = g (ix2 p ⟨h.val, by omega⟩) :=
    congrArg (fun l => g (ix2 p l)) (Fin.ext (by show 0 * 64 + h.val = h.val; omega))
  unfold ctx
  rw [e0]
  rfl

/-- The block's fourth nodes as the body computes them. -/
abbrev node3Vec : FVec Ideal S2000x64 .f32 :=
  k0_pay17 (F := Ideal) (k0_pay10 a) (k0_pay13 b) (k0_pay14 x w) (k0_pay15 u q) f

/-- The first output row of the block: every row's query against its own context. -/
theorem out0_apply (p : Fin 2000) :
    k0_pay22 (F := Ideal) (k0_pay12 d) (node3Vec x u w b a q f) (ctxVec x u g w b a al q f) V (ix3 0 0 p)
      = score (params w b a al V d) (query (params w b a al V d) (blockRow x u g p))
          (ctx (params w b a al V d) (blockRow x u g p)) := by
  pointwise [k0_pay22, k0_pay21, k0_pay19, k0_pay12, ctx_apply x u g w b a al V d q f hq hf, node3_apply x u g w b a al V d q f hq hf]
  rfl

/-- The second output row of the block: row 0's query against the carried context `gp`, every other row's against the
    context of the row before it. -/
theorem out1_apply (gp : Vec Ideal S1x64 .f32) (p : Fin 2000) :
    k0_pay23 (F := Ideal) (k0_pay12 d) (node3Vec x u w b a q f) (ctxVec x u g w b a al q f) V gp (ix3 0 0 p)
      = score (params w b a al V d) (query (params w b a al V d) (blockRow x u g p))
          (fun h => if hp : p.val = 0 then gp (ix2 0 h) else ctx (params w b a al V d) (blockRow x u g ⟨p.val - 1, by omega⟩) h) := by
  pointwise [k0_pay23, select_row, k0_pay21, k0_pay19, k0_pay12, ctx_apply x u g w b a al V d q f hq hf, node3_apply x u g w b a al V d q f hq hf]
  unfold score
  refine congrArg₂ (· + ·) (Finset.sum_congr rfl fun h _ => congrArg₂ (· * ·) rfl ?_) rfl
  by_cases hp : p.val = 0
  · show ite _ _ _ = dite _ _ _
    rw [dif_pos hp]
    exact if_pos hp
  · show ite _ _ _ = dite _ _ _
    rw [dif_neg hp]
    refine (if_neg hp).trans (congrArg (fun r => ctx (params w b a al V d) (blockRow x u g r) h) (Fin.ext ?_))
    show (p.val + 2000 - 1) % 2000 = p.val - 1
    omega

/-- What the body carries on from a block: its last row's context … -/
theorem last_apply (h : Fin 64) :
    k0_pay24 (F := Ideal) (ctxVec x u g w b a al q f) (ix2 0 h) = ctx (params w b a al V d) (blockRow x u g 1999) h := by
  pointwise [k0_pay24, ctx_apply x u g w b a al V d q f hq hf]

/-- … or, from the one block that holds the array's last rows, its last row's but one. -/
theorem last_but_one_apply (h : Fin 64) :
    k0_pay1 (F := Ideal) (ctxVec x u g w b a al q f) (ix2 0 h) = ctx (params w b a al V d) (blockRow x u g 1998) h := by
  pointwise [k0_pay1, ctx_apply x u g w b a al V d q f hq hf]

end Block

/-- What the first grid point computes from the boundary windows: that row's context. -/
theorem halo_apply (x : Vec Ideal S32x128 .f32) (u : Vec Ideal S8x16 .f32) (g : Vec Ideal S8x256 .f32)
    (w : Vec Ideal S128x64 .f32) (b : Vec Ideal S1x64 .f32) (a al : Vec Ideal S1x1 .f32)
    (V : Vec Ideal S64x64 .f32) (d : Vec Ideal S1x1 .f32) (h : Fin 64) :
    k0_pay20 (F := Ideal) (k0_pay11 al)
        (k0_pay8 (k0_pay10 a) (k0_pay13 b) (k0_pay2 x w) (k0_pay3 u) (k0_pay4 (k0_pay10 a) (k0_pay13 b) x w u)
          (k0_pay5 x w u) (k0_pay6 u) (k0_pay7 x w)) (k0_pay9 g) (ix2 0 h)
      = ctx (params w b a al V d) (haloRow x u g) h := by
  pointwise [k0_pay20, k0_pay8, k0_pay4, k0_pay5, k0_pay6, k0_pay7, k0_pay9, k0_pay2, k0_pay3, k0_pay10, k0_pay11, k0_pay13]
  pointwise [ctx, node, prelu, feat, Fin.sum_univ_four, haloRow, params, third_eq]

end Cert.KernelIdeal.Body

end
-- ==== Proof.WordsSpread.lean ====
/-
  The words of the program's first constant table, all 16384 of them.
-/
module

public import proofs.«01_k».proof.Proof.Gen.KernelIdeal.Skeleton

@[expose] public section

set_option maxRecDepth 16384

namespace Cert.KernelIdeal.Tables

open Cert.KernelIdeal

/-- The words of the first table: one where the row is the column's 64-block, zero elsewhere. -/
theorem words0 : ∀ n : Fin 16384,
    lit0 n = if n.val / 1024 = n.val % 1024 / 64 then 0x3F800000#32 else 0x00000000#32 := by
  decide +kernel

end Cert.KernelIdeal.Tables
-- ==== Proof.WordsFold.lean ====
/-
  The words of the program's second constant table, all 16384 of them.
-/
module

public import proofs.«01_k».proof.Proof.Gen.KernelIdeal.Skeleton

@[expose] public section

set_option maxRecDepth 16384

namespace Cert.KernelIdeal.Tables

open Cert.KernelIdeal

/-- The words of the second table: one where the row is the column modulo 64, zero elsewhere. -/
theorem words1 : ∀ n : Fin 16384,
    lit1 n = if n.val / 64 % 64 = n.val % 64 then 0x3F800000#32 else 0x00000000#32 := by
  decide +kernel

end Cert.KernelIdeal.Tables
-- ==== Proof.Tables.lean ====
/-
  The two one-hot tables of the program, read at an index: the first spreads each of 16 columns over 64 places, the
  second folds 256 places onto 64.
-/
module

public import proofs.«01_k».proof.Proof.Body
public import proofs.«01_k».proof.Proof.WordsSpread
public import proofs.«01_k».proof.Proof.WordsFold
public import Idealize.ShloMosaic.Lib.IdealHost

@[expose] public section

set_option maxRecDepth 16384

noncomputable section

namespace Cert.KernelIdeal.Tables

open Cert.KernelIdeal Cert.KernelIdeal.Gen Cert.KernelIdeal.Body Idealize.ShloMosaic

/-- The first table spreads. -/
theorem spreads : Spreads (fun i => FloatOps.ofBits (F := Ideal) .f32 (lit0 (S16x1024.rowMajor i))) := by
  intro k l
  have hn : (S16x1024.rowMajor (ix2 k l)).val = k.val * 1024 + l.val := Shape.rowMajor_val_two _
  refine (congrArg (Ideal.ofBits .f32) (words0 _)).trans ?_
  rw [hn]
  have h1 : (k.val * 1024 + l.val) / 1024 = k.val := by omega
  have h2 : (k.val * 1024 + l.val) % 1024 = l.val := by omega
  rw [h1, h2]
  split <;> simp

/-- The second table folds. -/
theorem folds : Folds (fun i => FloatOps.ofBits (F := Ideal) .f32 (lit1 (S256x64.rowMajor i))) := by
  intro l h
  have hn : (S256x64.rowMajor (ix2 l h)).val = l.val * 64 + h.val := Shape.rowMajor_val_two _
  refine (congrArg (Ideal.ofBits .f32) (words1 _)).trans ?_
  rw [hn]
  have h1 : (l.val * 64 + h.val) / 64 = l.val := by omega
  have h2 : (l.val * 64 + h.val) % 64 = h.val := by omega
  rw [h1, h2]
  split <;> simp

end Cert.KernelIdeal.Tables
-- ==== Proof.Cases.lean ====
/-
  What each grid point leaves in the output's block and in the carried scratch row, as the kernel's own payload terms.
-/
module

public import proofs.«01_k».proof.Proof.Body
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe

namespace Cert.KernelIdeal.Cases

open Cert.KernelIdeal Cert.KernelIdeal.Gen Cert.KernelIdeal.Body

variable (m : (ℓ : Loc nD τ sig) → Buf (Elt Ideal) ℓ)

theorem hz : (![0, 0] : Fin 2 → Nat) = fun _ => 0 := funext fun a => by fin_cases a <;> rfl

/-- A load of a whole two-axis buffer reads its contents. -/
theorem ld_whole {a b : Nat} (x : Vec Ideal (⟨2, ![a, b]⟩ : Shape) .f32)
    (h : ∀ i, (![0, 0] : Fin 2 → Nat) i + (![a, b] : Fin 2 → Nat) i ≤ (![a, b] : Fin 2 → Nat) i) :
    View.ld x (Rect.unit (s := (⟨2, ![a, b]⟩ : Shape)) ![0, 0] ![a, b] h) = x :=
  View.ld_unit_zero hz h x

/-- Two stored rows of 2000, one above the other, as one block. -/
def rows (u v : FVec Ideal S1x1x2000 .f32) : FVec Ideal S1x2x2000 .f32 :=
  fun y => if (y 1).val = 0 then u (ix3 0 0 (y 2)) else v (ix3 0 0 (y 2))

/-- The second row's store over the first row's leaves the two rows. -/
theorem canon_rows (h1 h0) (u v : FVec Ideal S1x1x2000 .f32) :
    View.canon (Val := Elt Ideal) (s := S1x2x2000) (e := .f32)
      [⟨Rect.unit ![0, 1, 0] ![1, 1, 2000] h1, v⟩, ⟨Rect.unit ![0, 0, 0] ![1, 1, 2000] h0, u⟩] = rows u v := by
  funext y
  have hy0 : (y 0).val < 1 := (y 0).isLt
  have hy1 : (y 1).val < 2 := (y 1).isLt
  unfold rows
  by_cases hy : (y 1).val = 0
  · rw [if_pos hy, View.canon_cons_of_not_mem]
    · have he : y = (Rect.unit (s := S1x2x2000) ![0, 0, 0] ![1, 1, 2000] h0).emb (ix3 0 0 (y 2)) := by
        funext a
        apply Fin.ext
        match a with
        | ⟨0, _⟩ => show (y 0).val = 0 + 0 * 1; omega
        | ⟨1, _⟩ => show (y 1).val = 0 + 0 * 1; omega
        | ⟨2, _⟩ => show (y 2).val = 0 + 1 * (y 2).val; omega
      conv_lhs => rw [he]
      exact View.canon_cons_emb _ _ _ _
    · rw [Rect.mem_set_unit]
      intro h
      have := (h 1).1
      exact absurd this (by show ¬ 1 ≤ (y 1).val; omega)
  · rw [if_neg hy]
    have he : y = (Rect.unit (s := S1x2x2000) ![0, 1, 0] ![1, 1, 2000] h1).emb (ix3 0 0 (y 2)) := by
      funext a
      apply Fin.ext
      match a with
      | ⟨0, _⟩ => show (y 0).val = 0 + 0 * 1; omega
      | ⟨1, _⟩ => show (y 1).val = 1 + 0 * 1; omega
      | ⟨2, _⟩ => show (y 2).val = 0 + 1 * (y 2).val; omega
    conv_lhs => rw [he]
    exact View.canon_cons_emb _ _ _ _

section At

variable (c : Dev nD) (t : Fin cfg0.N)

/-- The contexts the body computes at point `t`. -/
abbrev ctxAt : FVec Ideal S2000x64 .f32 :=
  ctxVec (iblk m c 0 t) (iblk m c 1 t) (iblk m c 2 t) (iblk m c 6 t) (iblk m c 10 t) (iblk m c 12 t) (iblk m c 11 t)
    (iblk m c 7 t) (iblk m c 8 t)

/-- The query nodes the body computes at point `t`. -/
abbrev nodeAt : FVec Ideal S2000x64 .f32 :=
  node3Vec (iblk m c 0 t) (iblk m c 1 t) (iblk m c 6 t) (iblk m c 10 t) (iblk m c 12 t) (iblk m c 7 t) (iblk m c 8 t)

/-- The output block of point `t`, given the carried context `gp`. -/
abbrev outAt (gp : FVec Ideal S1x64 .f32) : FVec Ideal S1x2x2000 .f32 :=
  rows (k0_pay22 (F := Ideal) (k0_pay12 (iblk m c 13 t)) (nodeAt m c t) (ctxAt m c t) (iblk m c 9 t))
    (k0_pay23 (F := Ideal) (k0_pay12 (iblk m c 13 t)) (nodeAt m c t) (ctxAt m c t) (iblk m c 9 t) gp)

/-- The boundary row's context, which the first point computes from the three small windows. -/
abbrev haloAt : FVec Ideal S1x64 .f32 :=
  k0_pay20 (F := Ideal) (k0_pay11 (iblk m c 11 t))
    (k0_pay8 (k0_pay10 (iblk m c 12 t)) (k0_pay13 (iblk m c 10 t)) (k0_pay2 (iblk m c 3 t) (iblk m c 6 t))
      (k0_pay3 (iblk m c 4 t)) (k0_pay4 (k0_pay10 (iblk m c 12 t)) (k0_pay13 (iblk m c 10 t)) (iblk m c 3 t) (iblk m c 6 t) (iblk m c 4 t))
      (k0_pay5 (iblk m c 3 t) (iblk m c 6 t) (iblk m c 4 t)) (k0_pay6 (iblk m c 4 t)) (k0_pay7 (iblk m c 3 t) (iblk m c 6 t)))
    (k0_pay9 (iblk m c 5 t))

/-- What point `t > 0` starts from in the scratch row: what the point before left. -/
abbrev carried : FVec Ideal S1x64 .f32 := (outsAt0 m c (t.val - 1) (Nat.lt_of_le_of_lt (Nat.sub_le _ _) t.isLt)).2

/-- At an inner point the output block is computed with what the point before carried over. -/
theorem out_B (h0 : ¬t.val % 25 = 0) (h1 : t.val % 25 ≠ 23) (h2 : ¬t.val % 25 = 23) :
    (outsAt0 m c t.val t.isLt).1 = outAt m c t (carried m c t) := by
  rw [outsAt0_B m c t h0 h1 h2]
  dsimp only
  unfold out0_B_14
  refine (View.read_writes_eq_canon _ _ _ (fun y => cover0_B_14 ..)).trans ?_
  unfold kernelRun0_B
  dsimp only
  sl_unfold_words
  simp only [View.readAt_eq_ld, Memref.IsWhole.read_unread, (Memref.isWhole_whole _).read_unread, ld_whole]
  exact canon_rows _ _ _ _

/-- At an inner point the scratch row is left at the block's last context. -/
theorem scratch_B (h0 : ¬t.val % 25 = 0) (h1 : t.val % 25 ≠ 23) (h2 : ¬t.val % 25 = 23) :
    (outsAt0 m c t.val t.isLt).2 = k0_pay24 (F := Ideal) (ctxAt m c t) := by
  rw [outsAt0_B m c t h0 h1 h2]
  dsimp only
  unfold sout0_B_0
  refine (View.read_writes_eq_canon _ _ _ (fun y => scover0_B_0 ..)).trans ?_
  unfold kernelRun0_B
  dsimp only
  sl_unfold_words
  rw [View.canon_unit_zero hz]
  simp only [View.readAt_eq_ld, Memref.IsWhole.read_unread, ld_whole]

/-- At the last block's point the output block is computed as at an inner one. -/
theorem out_C (h0 : ¬t.val % 25 = 0) (h1 : ¬t.val % 25 ≠ 23) (h2 : t.val % 25 = 23) :
    (outsAt0 m c t.val t.isLt).1 = outAt m c t (carried m c t) := by
  rw [outsAt0_C m c t h0 h1 h2]
  dsimp only
  unfold out0_C_14
  refine (View.read_writes_eq_canon _ _ _ (fun y => cover0_C_14 ..)).trans ?_
  unfold kernelRun0_C
  dsimp only
  sl_unfold_words
  simp only [View.readAt_eq_ld, Memref.IsWhole.read_unread, (Memref.isWhole_whole _).read_unread, ld_whole]
  exact canon_rows _ _ _ _

/-- At the last block's point the scratch row is left at the block's last context but one. -/
theorem scratch_C (h0 : ¬t.val % 25 = 0) (h1 : ¬t.val % 25 ≠ 23) (h2 : t.val % 25 = 23) :
    (outsAt0 m c t.val t.isLt).2 = k0_pay1 (F := Ideal) (ctxAt m c t) := by
  rw [outsAt0_C m c t h0 h1 h2]
  dsimp only
  unfold sout0_C_0
  refine (View.read_writes_eq_canon _ _ _ (fun y => scover0_C_0 ..)).trans ?_
  unfold kernelRun0_C
  dsimp only
  sl_unfold_words
  rw [View.canon_unit_zero hz]
  simp only [View.readAt_eq_ld, Memref.IsWhole.read_unread, ld_whole]

/-- At the first point the output block is computed with the boundary row's context. -/
theorem out_A (h0 : t.val % 25 = 0) (h1 : t.val % 25 ≠ 23) (h2 : ¬t.val % 25 = 23) :
    (outsAt0 m c t.val t.isLt).1 = outAt m c t (haloAt m c t) := by
  rw [outsAt0_A m c t h0 h1 h2]
  dsimp only
  unfold out0_A_14
  refine (View.read_writes_eq_canon _ _ _ (fun y => cover0_A_14 ..)).trans ?_
  unfold kernelRun0_A
  dsimp only
  sl_unfold_words
  rw [View.readCov_unit_zero (S := S1x64) _ hz]
  simp only [View.readAt_eq_ld, Memref.IsWhole.read_unread, (Memref.isWhole_whole _).read_unread, ld_whole]
  exact canon_rows _ _ _ _

/-- At the first point the scratch row is left at the block's last context. -/
theorem scratch_A (h0 : t.val % 25 = 0) (h1 : t.val % 25 ≠ 23) (h2 : ¬t.val % 25 = 23) :
    (outsAt0 m c t.val t.isLt).2 = k0_pay24 (F := Ideal) (ctxAt m c t) := by
  rw [outsAt0_A m c t h0 h1 h2]
  dsimp only
  unfold sout0_A_0
  refine (View.read_writes_eq_canon _ _ _ (fun y => scover0_A_0 ..)).trans ?_
  unfold kernelRun0_A
  dsimp only
  sl_unfold_words
  rw [View.canon_cons_unit_zero (S := S1x64) hz]
  simp only [View.readAt_eq_ld, Memref.IsWhole.read_unread, ld_whole]

end At

end Cert.KernelIdeal.Cases
-- ==== Proof.Blocks.lean ====
/-
  What the program's windows hold, in terms of the argument arrays: the arrays as the region finds them, the block each
  grid point sees, and hence the parameters and batch rows the body computes with.
-/
module

public import proofs.«01_k».proof.Proof.Inputs
public import proofs.«01_k».proof.Proof.Tables
public import proofs.«01_k».proof.Proof.Cases
public import Idealize.ShloMosaic.Lib.Claim

@[expose] public section

set_option maxRecDepth 16384

noncomputable section

namespace Cert.KernelIdeal.Blocks

open Cert.KernelIdeal Cert.KernelIdeal.Gen Cert.KernelIdeal.Body Cert.KernelIdeal.Cases Cert.Score
open Idealize.ShloMosaic Idealize.ShloMosaic.TcCoe

variable (m : (ℓ : Loc nD τ sig) → Buf (Elt Ideal) ℓ) (c : Dev nD) (t : Fin cfg0.N)

/-- The problem's parameters, from the launch memory of core `c`. -/
abbrev parsAt : Params :=
  paramsOf (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The problem's batch row `b`, from the launch memory of core `c`. -/
abbrev rowAt (b : Fin 50000) : Row :=
  rowOf (m ((c : Thread nD τ).loc main_arg0)) (m ((c : Thread nD τ).loc main_arg1)) (m ((c : Thread nD τ).loc main_arg2)) b

/-! ## The arrays as the region finds them -/

/-- The flattened features: row `4 b + n` is batch row `b`'s node `n`. -/
theorem entry_x (b : Fin 50000) (n : Fin 4) (k : Fin 128) (r : Fin 200000) (hr : r.val = b.val * 4 + n.val) :
    V m c main_v0 (ix2 r k) = (rowAt m c b).X n k := by
  entry_read
  exact shapeCast_apply _ _ _ _ ((Shape.rowMajor_val_three _).trans (Eq.symm ((Shape.rowMajor_val_two _).trans (by
    show r.val * 128 + k.val = (b.val * 4 + n.val) * 128 + k.val
    rw [hr]))))

/-- The flattened adjacency: place `4 r + j` of row `b` is its entry `r, j`. -/
theorem entry_u (b : Fin 50000) (r j : Fin 4) (l : Fin 16) (hl : l.val = r.val * 4 + j.val) :
    V m c main_v1 (ix2 b l) = (rowAt m c b).A r j := by
  entry_read
  exact shapeCast_apply _ _ _ _ ((Shape.rowMajor_val_three _).trans (Eq.symm ((Shape.rowMajor_val_two _).trans (by
    show b.val * 16 + l.val = (b.val * 4 + r.val) * 4 + j.val
    omega))))

/-- The flattened negative sequence: place `64 n + h` of row `b` is its entry `n, h`. -/
theorem entry_g (b : Fin 50000) (n : Fin 4) (h : Fin 64) (l : Fin 256) (hl : l.val = n.val * 64 + h.val) :
    V m c main_v2 (ix2 b l) = (rowAt m c b).N n h := by
  entry_read
  exact shapeCast_apply _ _ _ _ ((Shape.rowMajor_val_three _).trans (Eq.symm ((Shape.rowMajor_val_two _).trans (by
    show b.val * 256 + l.val = (b.val * 4 + n.val) * 64 + h.val
    omega))))

/-! ## The windows that hold a whole array -/

/-- A block index of zero on both axes puts the block at the array's origin. -/
theorem origin {f g : Fin 2 → Nat} (h : f 0 = 0 ∧ f 1 = 0) : (fun a => f a * g a) = fun _ => 0 :=
  funext fun a => match a with
    | ⟨0, _⟩ => by show f 0 * g 0 = 0; rw [h.1, Nat.zero_mul]
    | ⟨1, _⟩ => by show f 1 * g 1 = 0; rw [h.2, Nat.zero_mul]

/-- The projection's window holds the argument. -/
theorem whole_w : iblk m c 6 t = m ((c : Thread nD τ).loc main_arg5) :=
  (Memref.read_access_unit_zero (Elt Ideal) main_arg5
    (origin ((by decide +kernel : ∀ t : Fin grid0.N, win0_6.index t 0 = 0 ∧ win0_6.index t 1 = 0) t)) _ _).trans
    (V_main_arg5 m c)

/-- The spreading table's window spreads. -/
theorem whole_q : Spreads (iblk m c 7 t) := by
  have h : iblk m c 7 t = V m c main_cst := Memref.read_access_unit_zero (Elt Ideal) main_cst
    (origin ((by decide +kernel : ∀ t : Fin grid0.N, win0_7.index t 0 = 0 ∧ win0_7.index t 1 = 0) t)) _ _
  rw [h]
  entry_read
  exact Tables.spreads

/-- The folding table's window folds. -/
theorem whole_f : Folds (iblk m c 8 t) := by
  have h : iblk m c 8 t = V m c main_cst_0 := Memref.read_access_unit_zero (Elt Ideal) main_cst_0
    (origin ((by decide +kernel : ∀ t : Fin grid0.N, win0_8.index t 0 = 0 ∧ win0_8.index t 1 = 0) t)) _ _
  rw [h]
  entry_read
  exact Tables.folds

/-- The bilinear matrix's window holds the argument's one matrix. -/
theorem whole_V (i h : Fin 64) : iblk m c 9 t (ix2 i h) = m ((c : Thread nD τ).loc main_arg8) (ix3 0 i h) := by
  refine (congrFun (Memref.read_access_unit_zero (Elt Ideal) main_v3
    (origin ((by decide +kernel : ∀ t : Fin grid0.N, win0_9.index t 0 = 0 ∧ win0_9.index t 1 = 0) t)) _ (V m c main_v3)) _).trans ?_
  entry_read
  exact shapeCast_apply _ _ _ _ ((Shape.rowMajor_val_three _).trans (Eq.symm ((Shape.rowMajor_val_two _).trans (by
    show i.val * 64 + h.val = (0 * 64 + i.val) * 64 + h.val
    omega))))

/-- The convolution bias's window holds the argument as a row. -/
theorem whole_b (h : Fin 64) : iblk m c 10 t (ix2 0 h) = m ((c : Thread nD τ).loc main_arg6) (ix1 h) := by
  refine (congrFun (Memref.read_access_unit_zero (Elt Ideal) main_v4
    (origin ((by decide +kernel : ∀ t : Fin grid0.N, win0_10.index t 0 = 0 ∧ win0_10.index t 1 = 0) t)) _ (V m c main_v4)) _).trans ?_
  entry_read
  exact shapeCast_apply _ _ _ _ ((Shape.rowMajor_val_one _).trans (Eq.symm ((Shape.rowMajor_val_two _).trans (by
    show 0 * 64 + h.val = h.val
    omega))))

/-- A one-element vector as a 1 × 1 matrix, read at its only place. -/
theorem one_one (x : FVec Ideal S1 .f32) (h : S1.ShapeCasts S1x1) : shapeCast S1x1 x h (ix2 0 0) = x (ix1 0) :=
  shapeCast_apply _ _ _ _ ((Shape.rowMajor_val_one _).trans (Eq.symm (Shape.rowMajor_val_two _)))

/-- The mixing weight's window. -/
theorem whole_al : iblk m c 11 t (ix2 0 0) = m ((c : Thread nD τ).loc main_arg4) (ix1 0) := by
  refine (congrFun (Memref.read_access_unit_zero (Elt Ideal) main_v5
    (origin ((by decide +kernel : ∀ t : Fin grid0.N, win0_11.index t 0 = 0 ∧ win0_11.index t 1 = 0) t)) _ (V m c main_v5)) _).trans ?_
  entry_read
  exact one_one _ _

/-- The PReLU slope's window. -/
theorem whole_a : iblk m c 12 t (ix2 0 0) = m ((c : Thread nD τ).loc main_arg7) (ix1 0) := by
  refine (congrFun (Memref.read_access_unit_zero (Elt Ideal) main_v6
    (origin ((by decide +kernel : ∀ t : Fin grid0.N, win0_12.index t 0 = 0 ∧ win0_12.index t 1 = 0) t)) _ (V m c main_v6)) _).trans ?_
  entry_read
  exact one_one _ _

/-- The bilinear bias's window. -/
theorem whole_d : iblk m c 13 t (ix2 0 0) = m ((c : Thread nD τ).loc main_arg9) (ix1 0) := by
  refine (congrFun (Memref.read_access_unit_zero (Elt Ideal) main_v7
    (origin ((by decide +kernel : ∀ t : Fin grid0.N, win0_13.index t 0 = 0 ∧ win0_13.index t 1 = 0) t)) _ (V m c main_v7)) _).trans ?_
  entry_read
  exact one_one _ _

/-- So the parameters the body computes with are the problem's. -/
theorem params_eq : params (iblk m c 6 t) (iblk m c 10 t) (iblk m c 12 t) (iblk m c 11 t) (iblk m c 9 t) (iblk m c 13 t)
    = parsAt m c := by
  refine Params.ext (funext fun k => funext fun h => ?_) (funext fun h => whole_b m c t h) (whole_a m c t) (whole_al m c t)
    (funext fun i => funext fun h => whole_V m c t i h) (whole_d m c t)
  exact congrFun (whole_w m c t) (ix2 k h)

/-! ## The windows that move -/

/-- The block point `t` works on: the next one, and block 0 at the last point. -/
def blockNo (t : Fin cfg0.N) : Nat := if t.val = 24 then 0 else t.val + 1

theorem blockNo_lt : blockNo t < 25 := by
  have h : t.val < 25 := lt_of_lt_of_eq t.isLt N_0
  unfold blockNo
  split <;> omega

/-- The batch row that point `t`'s block holds at place `p`. -/
def batchRow (p : Fin 2000) : Fin 50000 := ⟨blockNo t * 2000 + p.val, by have := blockNo_lt t; omega⟩

/-- Places of the features' block are places of the array. -/
theorem block_x (p : Fin 2000) (n : Fin 4) (k : Fin 128) :
    iblk m c 0 t (ix2 ⟨p.val * 4 + n.val, by omega⟩ k) = (rowAt m c (batchRow t p)).X n k := by
  have hi : win0_0.index t 0 = blockNo t ∧ win0_0.index t 1 = 0 :=
    (by decide +kernel : ∀ t : Fin grid0.N, win0_0.index t 0 = blockNo t ∧ win0_0.index t 1 = 0) t
  have hb := blockNo_lt t
  refine Eq.trans ?_ (entry_x m c (batchRow t p) n k ⟨(blockNo t * 2000 + p.val) * 4 + n.val, by omega⟩ rfl)
  refine congrArg (V m c main_v0) (funext fun a => Fin.ext ?_)
  match a with
  | ⟨0, _⟩ => show win0_0.index t 0 * 8000 + 1 * (p.val * 4 + n.val) = (blockNo t * 2000 + p.val) * 4 + n.val; rw [hi.1]; omega
  | ⟨1, _⟩ => show win0_0.index t 1 * 128 + 1 * k.val = k.val; rw [hi.2]; omega

/-- Places of the adjacency's block are places of the array. -/
theorem block_u (p : Fin 2000) (r j : Fin 4) :
    iblk m c 1 t (ix2 p ⟨r.val * 4 + j.val, by omega⟩) = (rowAt m c (batchRow t p)).A r j := by
  have hi : win0_1.index t 0 = blockNo t ∧ win0_1.index t 1 = 0 :=
    (by decide +kernel : ∀ t : Fin grid0.N, win0_1.index t 0 = blockNo t ∧ win0_1.index t 1 = 0) t
  refine Eq.trans ?_ (entry_u m c (batchRow t p) r j ⟨r.val * 4 + j.val, by omega⟩ rfl)
  refine congrArg (V m c main_v1) (funext fun a => Fin.ext ?_)
  match a with
  | ⟨0, _⟩ => show win0_1.index t 0 * 2000 + 1 * p.val = blockNo t * 2000 + p.val; rw [hi.1]; omega
  | ⟨1, _⟩ => show win0_1.index t 1 * 16 + 1 * (r.val * 4 + j.val) = r.val * 4 + j.val; rw [hi.2]; omega

/-- Places of the negative sequence's block are places of the array. -/
theorem block_g (p : Fin 2000) (n : Fin 4) (h : Fin 64) :
    iblk m c 2 t (ix2 p ⟨n.val * 64 + h.val, by omega⟩) = (rowAt m c (batchRow t p)).N n h := by
  have hi : win0_2.index t 0 = blockNo t ∧ win0_2.index t 1 = 0 :=
    (by decide +kernel : ∀ t : Fin grid0.N, win0_2.index t 0 = blockNo t ∧ win0_2.index t 1 = 0) t
  refine Eq.trans ?_ (entry_g m c (batchRow t p) n h ⟨n.val * 64 + h.val, by omega⟩ rfl)
  refine congrArg (V m c main_v2) (funext fun a => Fin.ext ?_)
  match a with
  | ⟨0, _⟩ => show win0_2.index t 0 * 2000 + 1 * p.val = blockNo t * 2000 + p.val; rw [hi.1]; omega
  | ⟨1, _⟩ => show win0_2.index t 1 * 256 + 1 * (n.val * 64 + h.val) = n.val * 64 + h.val; rw [hi.2]; omega

/-- So the batch rows the body computes with at point `t` are the problem's. -/
theorem blockRow_eq (p : Fin 2000) : blockRow (iblk m c 0 t) (iblk m c 1 t) (iblk m c 2 t) p = rowAt m c (batchRow t p) :=
  Row.ext (funext fun n => funext fun k => block_x m c t p n k) (funext fun r => funext fun j => block_u m c t p r j)
    (funext fun n => funext fun h => block_g m c t p n h)

/-- The boundary windows hold batch row 1999. -/
theorem haloRow_eq : haloRow (iblk m c 3 t) (iblk m c 4 t) (iblk m c 5 t) = rowAt m c ⟨1999, by omega⟩ := by
  have h3 := (by decide +kernel : ∀ t : Fin grid0.N, win0_3.index t 0 = 249 ∧ win0_3.index t 1 = 0) t
  have h4 := (by decide +kernel : ∀ t : Fin grid0.N, win0_4.index t 0 = 249 ∧ win0_4.index t 1 = 0) t
  have h5 := (by decide +kernel : ∀ t : Fin grid0.N, win0_5.index t 0 = 249 ∧ win0_5.index t 1 = 0) t
  refine Row.ext (funext fun n => funext fun k => ?_) (funext fun r => funext fun j => ?_)
    (funext fun n => funext fun h => ?_)
  · refine Eq.trans ?_ (entry_x m c ⟨1999, by omega⟩ n k ⟨1999 * 4 + n.val, by omega⟩ rfl)
    refine congrArg (V m c main_v0) (funext fun a => Fin.ext ?_)
    match a with
    | ⟨0, _⟩ => show win0_3.index t 0 * 32 + 1 * (28 + n.val) = 1999 * 4 + n.val; rw [h3.1]; omega
    | ⟨1, _⟩ => show win0_3.index t 1 * 128 + 1 * k.val = k.val; rw [h3.2]; omega
  · refine Eq.trans ?_ (entry_u m c ⟨1999, by omega⟩ r j ⟨r.val * 4 + j.val, by omega⟩ rfl)
    refine congrArg (V m c main_v1) (funext fun a => Fin.ext ?_)
    match a with
    | ⟨0, _⟩ => show win0_4.index t 0 * 8 + 1 * 7 = 1999; rw [h4.1]
    | ⟨1, _⟩ => show win0_4.index t 1 * 16 + 1 * (r.val * 4 + j.val) = r.val * 4 + j.val; rw [h4.2]; omega
  · refine Eq.trans ?_ (entry_g m c ⟨1999, by omega⟩ n h ⟨n.val * 64 + h.val, by omega⟩ rfl)
    refine congrArg (V m c main_v2) (funext fun a => Fin.ext ?_)
    match a with
    | ⟨0, _⟩ => show win0_5.index t 0 * 8 + 1 * 7 = 1999; rw [h5.1]
    | ⟨1, _⟩ => show win0_5.index t 1 * 256 + 1 * (n.val * 64 + h.val) = n.val * 64 + h.val; rw [h5.2]; omega

end Cert.KernelIdeal.Blocks
-- ==== Proof.Points.lean ====
/-
  What every grid point leaves, in the problem's terms: the carried scratch row ends a point at the context the next
  point's first batch row is paired with, so each point's output block holds the scores of its batch rows.
-/
module

public import proofs.«01_k».proof.Proof.Blocks

@[expose] public section

set_option maxRecDepth 16384

noncomputable section

namespace Cert.KernelIdeal.Points

open Cert.KernelIdeal Cert.KernelIdeal.Gen Cert.KernelIdeal.Body Cert.KernelIdeal.Cases Cert.KernelIdeal.Blocks Cert.Score
open Idealize.ShloMosaic Idealize.ShloMosaic.TcCoe

variable (m : (ℓ : Loc nD τ sig) → Buf (Elt Ideal) ℓ) (c : Dev nD) (t : Fin cfg0.N)

theorem t_lt : t.val < 25 := lt_of_lt_of_eq t.isLt N_0

/-- The batch row whose context point `t` leaves in the scratch row: its block's last row, except that the last block's
    point leaves the row before that. -/
def leftRow (t : Fin cfg0.N) : Fin 50000 := if t.val = 23 then batchRow t 1998 else batchRow t 1999

/-- What point `t` leaves in the scratch row. -/
theorem scratch_eq (h : Fin 64) : (outsAt0 m c t.val t.isLt).2 (ix2 0 h) = ctx (parsAt m c) (rowAt m c (leftRow t)) h := by
  have ht := t_lt t
  unfold leftRow
  by_cases h23 : t.val = 23
  · rw [if_pos h23, scratch_C m c t (by omega) (by omega) (by omega), ← params_eq m c t, ← blockRow_eq m c t]
    exact last_but_one_apply _ _ _ _ _ _ _ _ _ _ _ (whole_q m c t) (whole_f m c t) h
  · rw [if_neg h23, ← params_eq m c t, ← blockRow_eq m c t]
    by_cases h0 : t.val = 0
    · rw [scratch_A m c t (by omega) (by omega) (by omega)]
      exact last_apply _ _ _ _ _ _ _ _ _ _ _ (whole_q m c t) (whole_f m c t) h
    · rw [scratch_B m c t (by omega) (by omega) (by omega)]
      exact last_apply _ _ _ _ _ _ _ _ _ _ _ (whole_q m c t) (whole_f m c t) h

/-- The first point's boundary row is the one its first batch row is paired with. -/
theorem halo_eq (h0 : t.val = 0) (h : Fin 64) :
    haloAt m c t (ix2 0 h) = ctx (parsAt m c) (rowAt m c (prev (batchRow t 0))) h := by
  have hp : prev (batchRow t 0) = ⟨1999, by omega⟩ := by
    have hb : (batchRow t 0).val = 2000 := by
      show blockNo t * 2000 + 0 = 2000
      unfold blockNo
      rw [if_neg (by omega), h0]
    unfold prev
    rw [dif_neg (by omega)]
    exact Fin.ext (by show (batchRow t 0).val - 1 = 1999; omega)
  rw [hp, ← params_eq m c t, ← haloRow_eq m c t]
  exact halo_apply _ _ _ _ _ _ _ _ _ h

/-- What a later point starts from is the context its first batch row is paired with. -/
theorem carried_eq (h0 : t.val ≠ 0) (h : Fin 64) :
    carried m c t (ix2 0 h) = ctx (parsAt m c) (rowAt m c (prev (batchRow t 0))) h := by
  have ht := t_lt t
  refine (scratch_eq m c ⟨t.val - 1, Nat.lt_of_le_of_lt (Nat.sub_le _ _) t.isLt⟩ h).trans ?_
  have hp : leftRow ⟨t.val - 1, Nat.lt_of_le_of_lt (Nat.sub_le _ _) t.isLt⟩ = prev (batchRow t 0) := by
    apply Fin.ext
    unfold leftRow prev batchRow blockNo
    by_cases h24 : t.val = 24
    · rw [if_pos (by show t.val - 1 = 23; omega), dif_pos (by show (if t.val = 24 then 0 else t.val + 1) * 2000 + 0 = 0; rw [if_pos h24])]
      show (if t.val - 1 = 24 then 0 else t.val - 1 + 1) * 2000 + 1998 = 49998
      rw [if_neg (by omega)]
      omega
    · rw [if_neg (by show ¬ t.val - 1 = 23; omega), dif_neg (by show ¬ (if t.val = 24 then 0 else t.val + 1) * 2000 + 0 = 0; rw [if_neg h24]; omega)]
      show (if t.val - 1 = 24 then 0 else t.val - 1 + 1) * 2000 + 1999 = (if t.val = 24 then 0 else t.val + 1) * 2000 + 0 - 1
      rw [if_neg (by omega), if_neg h24]
      omega
  rw [hp]

/-- The first output row of a point's block: every batch row's query against its own context. -/
theorem outAt_top (gp : FVec Ideal S1x64 .f32) (p : Fin 2000) :
    outAt m c t gp (ix3 0 0 p) = score (parsAt m c) (query (parsAt m c) (rowAt m c (batchRow t p)))
      (ctx (parsAt m c) (rowAt m c (batchRow t p))) := by
  rw [← params_eq m c t, ← blockRow_eq m c t p]
  exact out0_apply _ _ _ _ _ _ _ _ _ _ _ (whole_q m c t) (whole_f m c t) p

/-- The second output row: every batch row's query against the context of the row before, when the carried row is what
    the first batch row is paired with. -/
theorem outAt_bottom (gp : FVec Ideal S1x64 .f32)
    (hgp : ∀ h, gp (ix2 0 h) = ctx (parsAt m c) (rowAt m c (prev (batchRow t 0))) h) (p : Fin 2000) :
    outAt m c t gp (ix3 0 1 p) = score (parsAt m c) (query (parsAt m c) (rowAt m c (batchRow t p)))
      (ctx (parsAt m c) (rowAt m c (prev (batchRow t p)))) := by
  refine (out1_apply _ _ _ _ _ _ _ _ _ _ _ (whole_q m c t) (whole_f m c t) gp p).trans ?_
  rw [params_eq m c t, blockRow_eq m c t p]
  refine congrArg (score _ _) (funext fun h => ?_)
  by_cases hp : p.val = 0
  · rw [dif_pos hp, hgp h]
    have : p = 0 := Fin.ext hp
    rw [this]
  · rw [dif_neg hp, blockRow_eq m c t]
    have : prev (batchRow t p) = batchRow t ⟨p.val - 1, by omega⟩ := by
      apply Fin.ext
      unfold prev
      rw [dif_neg (by show ¬ blockNo t * 2000 + p.val = 0; omega)]
      show blockNo t * 2000 + p.val - 1 = blockNo t * 2000 + (p.val - 1)
      omega
    rw [this]

/-- The output block of every point is computed with a carried row that holds the context its first batch row is
    paired with. -/
theorem out_eq : ∃ gp : FVec Ideal S1x64 .f32,
    (∀ h, gp (ix2 0 h) = ctx (parsAt m c) (rowAt m c (prev (batchRow t 0))) h)
      ∧ (outsAt0 m c t.val t.isLt).1 = outAt m c t gp := by
  have ht := t_lt t
  by_cases h0 : t.val = 0
  · exact ⟨_, halo_eq m c t h0, out_A m c t (by omega) (by omega) (by omega)⟩
  · by_cases h23 : t.val = 23
    · exact ⟨_, carried_eq m c t h0, out_C m c t (by omega) (by omega) (by omega)⟩
    · exact ⟨_, carried_eq m c t h0, out_B m c t (by omega) (by omega) (by omega)⟩

end Cert.KernelIdeal.Points
-- ==== Proof.Final.lean ====
/-
  The program's result: the region's output array holds the scores block by block, the two host operations after the
  region lay them out as one column, and the whole run ends with that column and the arguments untouched.
-/
module

public import proofs.«01_k».proof.Proof.Points
public import Idealize.ShloMosaic.Lib.StableHlo.RunRead

@[expose] public section

set_option maxRecDepth 16384

noncomputable section

namespace Cert.KernelIdeal.Final

open Cert.KernelIdeal Cert.KernelIdeal.Gen Cert.KernelIdeal.Cases Cert.KernelIdeal.Blocks Cert.KernelIdeal.Points Cert.Score
open Idealize.ShloMosaic Idealize.ShloMosaic.TcCoe Idealize.SL.Sem

variable (m : (ℓ : Loc nD τ sig) → Buf (Elt Ideal) ℓ) (ρ : Dev nD → PrngReg) (c : Dev nD)

/-- The score at place `p` of block `k`, in row `j` of the output: against the own context in row 0, against the
    context of the row before in row 1. -/
def cell (k : Fin 25) (j : Fin 2) (p : Fin 2000) : EReal :=
  score (parsAt m c) (query (parsAt m c) (rowAt m c ⟨k.val * 2000 + p.val, by omega⟩))
    (ctx (parsAt m c) (rowAt m c (if j.val = 0 then ⟨k.val * 2000 + p.val, by omega⟩
      else prev ⟨k.val * 2000 + p.val, by omega⟩)))

/-- The region's output array. -/
def blocks : FVec Ideal S25x2x2000 .f32 := fun i => cell m c (i 0) (i 1) (i 2)

/-- What the body leaves at point `t` is the scores of its block. -/
theorem out_cell (t : Fin cfg0.N) (j : Fin 2) (p : Fin 2000) :
    (outsAt0 m c t.val t.isLt).1 (ix3 0 j p) = cell m c ⟨blockNo t, blockNo_lt t⟩ j p := by
  obtain ⟨gp, hgp, he⟩ := out_eq m c t
  rw [he]
  match j with
  | ⟨0, _⟩ => exact outAt_top m c t gp p
  | ⟨1, _⟩ => exact outAt_bottom m c t gp hgp p

/-- The output window's block at point `t` is block `blockNo t`. -/
theorem index_out (t : Fin cfg0.N) : win0_14.index t 0 = blockNo t ∧ win0_14.index t 1 = 0 ∧ win0_14.index t 2 = 0 :=
  (by decide +kernel : ∀ t : Fin grid0.N, win0_14.index t 0 = blockNo t ∧ win0_14.index t 1 = 0 ∧ win0_14.index t 2 = 0) t

/-- What point `t` writes back is its block of the output array. -/
theorem flushed_eq (t : Fin cfg0.N) :
    (dats m 0 c).flushed 14 t = ((cfg0.win 14).blk t).view.read (Elt Ideal) (blocks m c) := by
  show (cfg0.win 14).cut (grid0.coords t) ((dats m 0 c).after 14 t) = _
  rw [after0_14]
  obtain ⟨h0, h1, h2⟩ := index_out t
  funext y
  have hy : y = ix3 (y 0) (y 1) (y 2) := by
    funext a
    match a with
    | ⟨0, _⟩ => rfl
    | ⟨1, _⟩ => rfl
    | ⟨2, _⟩ => rfl
  have hy0 : (y 0).val < 1 := (y 0).isLt
  refine Eq.trans (b := cell m c ⟨blockNo t, blockNo_lt t⟩ (y 1) (y 2)) ?_ ?_
  · refine Eq.trans ?_ (out_cell m c t (y 1) (y 2))
    refine congrArg (outsAt0 m c t.val t.isLt).1 (funext fun a => Fin.ext ?_)
    match a with
    | ⟨0, _⟩ => show (y 0).val = 0; omega
    | ⟨1, _⟩ => rfl
    | ⟨2, _⟩ => rfl
  · refine Eq.symm ?_
    show blocks m c (((cfg0.win 14).blk t).view.emb y) = _
    unfold blocks
    congr 1
    · exact Fin.ext (by show win0_14.index t 0 * 1 + 1 * (y 0).val = blockNo t; rw [h0]; omega)
    · exact Fin.ext (by show win0_14.index t 1 * 2 + 1 * (y 1).val = (y 1).val; rw [h1]; omega)
    · exact Fin.ext (by show win0_14.index t 2 * 2000 + 1 * (y 2).val = (y 2).val; rw [h2]; omega)

/-- So the output array ends holding the scores: the points' blocks cover it. -/
theorem final_out : (dats m 0 c).arrAt 14 cfg0.N = blocks m c :=
  (dats m 0 c).arrAt_eq_of_cover 14 (blocks m c) (fun t _ => flushed_eq m c t) fun i => by
    have h0 : (i 0 : Nat) < 25 := (i 0).isLt
    have h1 : (i 1 : Nat) < 2 := (i 1).isLt
    have h2 : (i 2 : Nat) < 2000 := (i 2).isLt
    have hN : cfg0.N = 25 := N_0
    refine ⟨⟨if (i 0 : Nat) = 0 then 24 else (i 0 : Nat) - 1, by split <;> omega⟩, flush0_14 _, ?_⟩
    generalize ht : (⟨if (i 0 : Nat) = 0 then 24 else (i 0 : Nat) - 1, by split <;> omega⟩ : Fin cfg0.N) = t
    have hb : blockNo t = (i 0 : Nat) := by
      rw [← ht]
      unfold blockNo
      by_cases hi : (i 0 : Nat) = 0
      · simp [hi]
      · simp only [hi, if_false]
        rw [if_neg (by omega)]
        omega
    obtain ⟨e0, e1, e2⟩ := index_out t
    show i ∈ ((View.whole main_v8).slice (win0_14.rect t)).set
    rw [View.set_slice_whole, Rect.mem_set_unit]
    intro a
    match a with
    | ⟨0, _⟩ => show win0_14.index t 0 * 1 ≤ (i 0 : Nat) ∧ (i 0 : Nat) < win0_14.index t 0 * 1 + 1; rw [e0]; omega
    | ⟨1, _⟩ => show win0_14.index t 1 * 2 ≤ (i 1 : Nat) ∧ (i 1 : Nat) < win0_14.index t 1 * 2 + 2; rw [e1]; omega
    | ⟨2, _⟩ => show win0_14.index t 2 * 2000 ≤ (i 2 : Nat) ∧ (i 2 : Nat) < win0_14.index t 2 * 2000 + 2000; rw [e2]; omega

/-- The column the program returns. -/
def column : FVec Ideal S100000x1 .f32 := fun i => result (parsAt m c) (rowAt m c) (i 0)

/-- A result row's place in the blocks: the row is `50000 j + 2000 k + p`. -/
theorem place (n : Fin 100000) : ∃ (j : Fin 2) (k : Fin 25) (p : Fin 2000), n.val = j.val * 50000 + k.val * 2000 + p.val :=
  ⟨⟨n.val / 50000, by omega⟩, ⟨n.val % 50000 / 2000, by omega⟩, ⟨n.val % 2000, by omega⟩, by
    show n.val = n.val / 50000 * 50000 + n.val % 50000 / 2000 * 2000 + n.val % 2000
    omega⟩

/-- At that row the result is the score at that place. -/
theorem result_place (n : Fin 100000) (j : Fin 2) (k : Fin 25) (p : Fin 2000)
    (hn : n.val = j.val * 50000 + k.val * 2000 + p.val) : result (parsAt m c) (rowAt m c) n = cell m c k j p := by
  have hk := k.isLt
  have hp := p.isLt
  have hj := j.isLt
  unfold result cell
  by_cases h0 : j.val = 0
  · have hb : n.val = k.val * 2000 + p.val := by omega
    have hlt : n.val < 50000 := by omega
    have he : (⟨n.val, hlt⟩ : Fin 50000) = ⟨k.val * 2000 + p.val, by omega⟩ := Fin.ext hb
    rw [dif_pos hlt, if_pos h0, he]
  · have hlt : ¬ n.val < 50000 := by omega
    have he : (⟨n.val - 50000, by omega⟩ : Fin 50000) = ⟨k.val * 2000 + p.val, by omega⟩ :=
      Fin.ext (by show n.val - 50000 = k.val * 2000 + p.val; omega)
    rw [dif_neg hlt, if_neg h0, he]

/-- The transposed blocks as one column are the result. -/
theorem laid_out : shapeCast S100000x1 (transpose S2x25x2000 [1, 0, 2] (blocks m c) transposes_S25x2x2000_S2x25x2000_1_0_2)
    shapeCasts_S2x25x2000_S100000x1 = column m c := by
  funext i
  obtain ⟨j, k, p, hn⟩ := place (i 0)
  have h1 : (i 1).val < 1 := (i 1).isLt
  refine (shapeCast_apply _ _ i (ix3 j k p) ?_).trans ?_
  · have hl := Shape.rowMajor_val_three (d := ![2, 25, 2000]) (ix3 j k p)
    have hr := Shape.rowMajor_val_two (d := ![100000, 1]) i
    refine hl.trans (Eq.trans ?_ hr.symm)
    show (j.val * 25 + k.val) * 2000 + p.val = (i 0).val * 1 + (i 1).val
    omega
  · refine Eq.trans (b := cell m c k j p) ?_ (result_place m c (i 0) j k p hn).symm
    pointwise [blocks]

/-- What the two host operations after the region leave in the result buffer. -/
theorem tail_eq : Pipeline.afterTail₀ cfgs (dats m) 0 (V0 m) [hostOps1] c main_v10 = column m c := by
  have h8 := (Pipeline.Dat.withArrays_arrAt (dats m 0 c) sharedIn0 (V0 m c) (A_eq m c) 14).trans (final_out m c)
  refine Eq.trans ?_ (laid_out m c)
  unfold Pipeline.afterTail₀
  generalize Pipeline.withArrays _ c (V0 m c) _ = W at h8 ⊢
  show StableHlo.after hostOps1 W (Proc.devRef .tc main_v10) = _
  after_results_simp
  exact congrArg (fun x => shapeCast S100000x1 (transpose S2x25x2000 [1, 0, 2] x transposes_S25x2x2000_S2x25x2000_1_0_2)
    shapeCasts_S2x25x2000_S100000x1) h8

/-- Every run of the program ends with the column of scores in the result buffer. -/
theorem run_column : θ_run defs (onTc main) (s₀ m ρ) fun r => ∀ c : Dev nD,
    r.2.mem ((c.tc : Thread nD τ).loc main_v10) = column m c :=
  θ_run_mono (run_main m ρ) fun r h c =>
    ((h c).2 main_v10 (Pipeline.mem_restRefs_of main_v10 (by decide) (by decide))).trans (tail_eq m c)

end Cert.KernelIdeal.Final
-- ==== Proof.Reference.lean ====
/-
  The reference's result, read at an index: it too is the column of scores of Score.lean.
-/
module

public import proofs.«01_k».proof.Proof.Inputs
public import proofs.«01_k».proof.Proof.Gen.ReferenceIdeal.Run

@[expose] public section

set_option maxRecDepth 16384

noncomputable section

namespace Cert.ReferenceIdeal.Scores

open Cert.ReferenceIdeal Cert.ReferenceIdeal.Gen Cert.Score
open Idealize.ShloMosaic Idealize.ShloMosaic.TcCoe Idealize.SL.Sem

variable (x : FVec Ideal S50000x4x128 .f32) (u : FVec Ideal S50000x4x4 .f32) (g : FVec Ideal S50000x4x64 .f32)
  (al : FVec Ideal S1 .f32) (w : FVec Ideal S128x64 .f32) (b : FVec Ideal S64 .f32) (a : FVec Ideal S1 .f32)
  (V : FVec Ideal S1x64x64 .f32) (d : FVec Ideal S1 .f32)

/-- The graph convolution before its PReLU. -/
def conv : FVec Ideal S50000x4x64 .f32 :=
  addf (Host.dotGeneral dot_S50000x4x4_S50000x4x64_S50000x4x64_2_1_1_2_0_0 none u
      (Host.dotGeneral dot_S50000x4x128_S128x64_S50000x4x64_2_0_01_1_n_n none x w))
    (broadcastInDim S50000x4x64 ![0, 1, 2] bcast_S1x1x64_S50000x4x64_0_1_2 (broadcastInDim S1x1x64 ![2] bcast_S64_S1x1x64_2 b))

/-- The PReLU, elementwise. -/
def act (o : FVec Ideal S50000x4x64 .f32) : FVec Ideal S50000x4x64 .f32 :=
  select (cmpf .oge o (broadcastInDim S50000x4x64 ![] bcast_S_S50000x4x64 (constant S_ .f32 0x00000000#32))) o
    (mulf (broadcastInDim S50000x4x64 ![] bcast_S_S50000x4x64 (shapeCast S_ a shapeCasts_S1_S_)) o)

/-- The mean over a row's first three entries. -/
def mean3 (o : FVec Ideal S50000x4x64 .f32) : FVec Ideal S50000x64 .f32 :=
  Host.divf (Host.reduceAdd (extractStridedSlice S50000x3x64 ![0, 0, 0] o slices_S50000x4x64_S50000x3x64_0_0_0)
      (constant S_ .f32 0x00000000#32) reducesTo_S50000x3x64_S50000x64_d1 h_S_)
    (broadcastInDim S50000x64 ![] bcast_S_S50000x64 (constant S_ .f32 0x40400000#32))

/-- A row's fourth entry. -/
def fourth (o : FVec Ideal S50000x4x64 .f32) : FVec Ideal S50000x64 .f32 :=
  shapeCast S50000x64 (extractStridedSlice S50000x1x64 ![0, 3, 0] o slices_S50000x4x64_S50000x1x64_0_3_0)
    shapeCasts_S50000x1x64_S50000x64

/-- The two means mixed by the weight `al`. -/
def mix (p q : FVec Ideal S50000x64 .f32) : FVec Ideal S50000x64 .f32 :=
  addf (mulf (broadcastInDim S50000x64 ![0, 1] bcast_S1x1_S50000x64_0_1 (broadcastInDim S1x1 ![1] bcast_S1_S1x1_1 al)) p)
    (mulf (broadcastInDim S50000x64 ![0, 1] bcast_S1x1_S50000x64_0_1 (broadcastInDim S1x1 ![1] bcast_S1_S1x1_1
      (subf (broadcastInDim S1 ![] bcast_S_S1 (constant S_ .f32 0x3F800000#32)) al))) q)

/-- Every row replaced by the one before it, row 0 by row 49998. -/
def before (p : FVec Ideal S50000x64 .f32) : FVec Ideal S50000x64 .f32 :=
  concatenate S50000x64 0 [⟨S1x64, extractStridedSlice S1x64 ![49998, 0] p slices_S50000x64_S1x64_49998_0⟩,
    ⟨S49999x64, extractStridedSlice S49999x64 ![0, 0] p slices_S50000x64_S49999x64_0_0⟩]
    concatenates_S1x64_S49999x64_S50000x64_d0

/-- The bilinear scores of the fourth entries `q` against the contexts `p`. -/
def scores (p q : FVec Ideal S50000x64 .f32) : FVec Ideal S50000x1 .f32 :=
  addf (Host.dotGeneral dot_S50000x64_S1x64x50000_S50000x1_1_1_n_0_0_2 none p
      (Host.dotGeneral dot_S1x64x64_S50000x64_S1x64x50000_1_1_02_0_n_n none V q))
    (broadcastInDim S50000x1 ![0, 1] bcast_S1x1_S50000x1_0_1 (broadcastInDim S1x1 ![1] bcast_S1_S1x1_1 d))

/-- The two halves of the result, one under the other. -/
def halves : FVec Ideal S100000x1 .f32 :=
  concatenate S100000x1 0
    [⟨S50000x1, scores V d (mix al (mean3 (act a (conv x u w b))) (mean3 g)) (fourth (act a (conv x u w b)))⟩,
     ⟨S50000x1, scores V d (mix al (before (mean3 (act a (conv x u w b)))) (before (mean3 g))) (fourth (act a (conv x u w b)))⟩]
    concatenates_S50000x1_S50000x1_S100000x1_d0

/-- The reference's result is those two halves of its arguments. -/
theorem res_halves (m : (ℓ : Loc nD τ sig) → Buf (Elt Ideal) ℓ) (c : Dev nD) :
    Value.res_out0 m c = halves (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

/-- The parameters of these arrays. -/
abbrev pars : Params := paramsOf al w b a V d

/-- The nodes after the PReLU are the nodes of the problem. -/
theorem act_apply (p : Fin 50000) (n : Fin 4) (h : Fin 64) :
    act a (conv x u w b) (ix3 p n h) = node (pars al w b a V d) (rowOf x u g p) n h := by
  pointwise [act, conv]
  rfl

/-- The divisor's pattern is three. -/
theorem three_eq : Ideal.ofBits .f32 0x40400000#32 = ((3 : ℝ) : EReal) := by
  simp [Ideal.ofBits, Ideal.ieee, -EReal.coe_mul]
  norm_num

/-- The mean over three entries is their sum times a third. -/
theorem mean3_apply (o : FVec Ideal S50000x4x64 .f32) (p : Fin 50000) (h : Fin 64) :
    mean3 o (ix2 p h) = (o (ix3 p 0 h) + o (ix3 p 1 h) + o (ix3 p 2 h)) * third := by
  pointwise [mean3]
  refine (congrArg (Ideal.div _) three_eq).trans ((Ideal.div_coe (by norm_num) _).trans ?_)
  rw [Fin.sum_univ_three, one_div]
  rfl

/-- The fourth entry, read. -/
theorem fourth_apply (o : FVec Ideal S50000x4x64 .f32) (p : Fin 50000) (h : Fin 64) :
    fourth o (ix2 p h) = o (ix3 p 3 h) := by
  pointwise [fourth]

/-- The mix, read. -/
theorem mix_apply (y z : FVec Ideal S50000x64 .f32) (p : Fin 50000) (h : Fin 64) :
    mix al y z (ix2 p h) = al (ix1 0) * y (ix2 p h) + (1 - al (ix1 0)) * z (ix2 p h) := by
  pointwise [mix]

/-- The shifted rows, read. -/
theorem before_apply (y : FVec Ideal S50000x64 .f32) (p : Fin 50000) (h : Fin 64) :
    before y (ix2 p h) = y (ix2 (prev p) h) := by
  pointwise [before]
  unfold prev
  by_cases hp : p.val = 0
  · rw [dif_pos (show p.val < 1 by omega), dif_pos hp]
    exact congrArg (fun q => y (ix2 q h)) (Fin.ext (by show 49998 + p.val = 49998; omega))
  · rw [dif_neg (show ¬ p.val < 1 by omega), dif_neg hp]

/-- The scores, read. -/
theorem scores_apply (y z : FVec Ideal S50000x64 .f32) (p : Fin 50000) :
    scores V d y z (ix2 p 0) = (∑ j, (∑ i, z (ix2 p i) * V (ix3 0 i j)) * y (ix2 p j)) + d (ix1 0) := by
  pointwise [scores]
  refine congrArg (· + d (ix1 0)) (Finset.sum_congr rfl fun j _ => ?_)
  rw [mul_comm]
  exact congrArg (· * y (ix2 p j)) (Finset.sum_congr rfl fun i _ => mul_comm _ _)

/-- The reference's mixed means are the contexts of the problem. -/
theorem mix_ctx (p q : Fin 50000) (y z : FVec Ideal S50000x64 .f32)
    (hy : ∀ h, y (ix2 p h) = mean3 (act a (conv x u w b)) (ix2 q h)) (hz : ∀ h, z (ix2 p h) = mean3 g (ix2 q h)) (h : Fin 64) :
    mix al y z (ix2 p h) = ctx (pars al w b a V d) (rowOf x u g q) h := by
  rw [mix_apply, hy, hz, mean3_apply, mean3_apply, act_apply x u g al w b a V d, act_apply x u g al w b a V d,
    act_apply x u g al w b a V d]
  rfl

/-- The scores of the fourth nodes against contexts are the scores of the problem. -/
theorem scores_score (p q : Fin 50000) (y : FVec Ideal S50000x64 .f32)
    (hy : ∀ h, y (ix2 p h) = ctx (pars al w b a V d) (rowOf x u g q) h) :
    scores V d y (fourth (act a (conv x u w b))) (ix2 p 0)
      = score (pars al w b a V d) (query (pars al w b a V d) (rowOf x u g p)) (ctx (pars al w b a V d) (rowOf x u g q)) := by
  rw [scores_apply]
  simp only [hy, fourth_apply, act_apply x u g al w b a V d]
  rfl

/-- The reference's result is the column of scores. -/
theorem halves_apply (i : Fin 100000) :
    halves x u g al w b a V d (ix2 i 0) = result (pars al w b a V d) (rowOf x u g) i := by
  pointwise [halves]
  unfold result
  by_cases hi : i.val < 50000
  · rw [dif_pos hi, dif_pos hi]
    exact scores_score x u g al w b a V d _ _ _ (mix_ctx x u g al w b a V d _ _ _ _ (fun _ => rfl) fun _ => rfl)
  · rw [dif_neg hi, dif_neg hi]
    exact scores_score x u g al w b a V d _ _ _
      (mix_ctx x u g al w b a V d _ _ _ _ (fun _ => before_apply _ _ _) fun _ => before_apply _ _ _)

end Cert.ReferenceIdeal.Scores
-- ==== Proof.lean ====
/-
  The claims about the graph-encoder scores: the kernel, its idealization and the reference run, leave their arguments
  alone and end with every counter at zero; the idealization names the constant one third; and the idealized kernel and
  the reference return the same column of scores.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone and has no counter to move. -/
theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

/-- The named constant is what its pattern rounds: one third. -/
theorem preserves : Cert.preserves_Kernel_KernelIdeal :=
  IdealRules.named_const.statement Cert.KernelIdeal.κ "third" .f32 0x3EAAAAAB#32 _ rfl

/-- From arguments that agree, the reference's column is the kernel's: both are the scores of the same parameters and
    rows. -/
theorem same_column (m : (ℓ : Loc Cert.KernelIdeal.nD Cert.KernelIdeal.τ Cert.KernelIdeal.sig) → Buf (Elt Ideal) ℓ)
    (c : Dev Cert.KernelIdeal.nD) :
    Cert.ReferenceIdeal.Scores.halves (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
      = Cert.KernelIdeal.Final.column m c := by
  funext i
  have hi : i = ix2 (i 0) 0 := by
    funext a
    match a with
    | ⟨0, _⟩ => rfl
    | ⟨1, _⟩ => exact Fin.ext (by have h : (i 1).val < 1 := (i 1).isLt; show (i 1).val = 0; omega)
  rw [hi]
  exact Cert.ReferenceIdeal.Scores.halves_apply _ _ _ _ _ _ _ _ _ (i 0)

/-- The idealized kernel and the reference return the same column of scores. -/
theorem algebraic : Cert.algebraic_KernelIdeal_ReferenceIdeal := by
  intro m ρ m' ρ' _ hagree
  refine ⟨fun c => Cert.KernelIdeal.Final.column m c, ?_, ?_⟩
  · exact θ_run_mono (θ_run_and (Cert.KernelIdeal.Final.run_column m ρ) (Cert.KernelIdeal.Gen.unchanged m ρ))
      fun r h c => ⟨h.1 c, h.2 c⟩
  · refine θ_run_mono (Cert.ReferenceIdeal.Value.run (F := Ideal) m' ρ') fun r h c => ⟨(h c).1.trans ?_, (h c).2⟩
    obtain ⟨h0, h1, h2, _, h4, h5, h6, h7, h8, h9⟩ := hagree c
    refine (Cert.ReferenceIdeal.Scores.res_halves m' c).trans ?_
    rw [h0, h1, h2, h4, h5, h6, h7, h8, h9]
    exact same_column m c

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, preserves, algebraic⟩

end Cert.Proof

end
